-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases_zero [hPre_biases_zero : Cert.Pre_biases_zero.Facts] (m : (ℓ : Loc Cert.KernelIdeal.nD Cert.KernelIdeal.τ Cert.KernelIdeal.sig) → Buf (Elt Ideal) ℓ) : Prop :=
  ∀ c : Dev Cert.KernelIdeal.nD,
    (Cert.Pre_biases_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_gating_finite [hPre_gating_finite : Cert.Pre_gating_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gating_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases_zero [hPre_biases_zero : Cert.Pre_biases_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_ReferenceIdeal_gating_finite [hPre_gating_finite : Cert.Pre_gating_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gating_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_biases_zero [hKernelIdeal : Cert.KernelIdeal.Facts] [hPre_biases_zero : Cert.Pre_biases_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gating_finite [hKernelIdeal : Cert.KernelIdeal.Facts] [hPre_gating_finite : Cert.Pre_gating_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gating_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_biases_zero [hReferenceIdeal : Cert.ReferenceIdeal.Facts] [hPre_biases_zero : Cert.Pre_biases_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gating_finite [hReferenceIdeal : Cert.ReferenceIdeal.Facts] [hPre_gating_finite : Cert.Pre_gating_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gating_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_biases_zero [hKernelIdeal : Cert.KernelIdeal.Facts] [hReferenceIdeal : Cert.ReferenceIdeal.Facts] [hPre_biases_zero : Cert.Pre_biases_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_KernelIdeal_ReferenceIdeal_pre_gating_finite [hKernelIdeal : Cert.KernelIdeal.Facts] [hReferenceIdeal : Cert.ReferenceIdeal.Facts] [hPre_gating_finite : Cert.Pre_gating_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gating_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_biases_zero : Cert.Pre_biases_zero.Facts) (hPre_gating_finite : Cert.Pre_gating_finite.Facts),
    quiescent_Kernel (hKernel := hKernel)
    ∧ quiescent_KernelIdeal (hKernelIdeal := hKernelIdeal)
    ∧ quiescent_KernelIdeal_pre_biases_zero (hKernelIdeal := hKernelIdeal) (hPre_biases_zero := hPre_biases_zero)
    ∧ quiescent_KernelIdeal_pre_gating_finite (hKernelIdeal := hKernelIdeal) (hPre_gating_finite := hPre_gating_finite)
    ∧ quiescent_ReferenceIdeal (hReferenceIdeal := hReferenceIdeal)
    ∧ quiescent_ReferenceIdeal_pre_biases_zero (hReferenceIdeal := hReferenceIdeal) (hPre_biases_zero := hPre_biases_zero)
    ∧ quiescent_ReferenceIdeal_pre_gating_finite (hReferenceIdeal := hReferenceIdeal) (hPre_gating_finite := hPre_gating_finite)
    ∧ preserves_Kernel_KernelIdeal
    ∧ algebraic_KernelIdeal_ReferenceIdeal_pre_biases_zero (hKernelIdeal := hKernelIdeal) (hReferenceIdeal := hReferenceIdeal) (hPre_biases_zero := hPre_biases_zero)
    ∧ algebraic_KernelIdeal_ReferenceIdeal_pre_gating_finite (hKernelIdeal := hKernelIdeal) (hReferenceIdeal := hReferenceIdeal) (hPre_gating_finite := hPre_gating_finite)
-- ==== Pre_biases_zero.lean ====
abbrev S4x768x128x64 : Shape := ⟨4, ![4, 768, 128, 64]⟩
abbrev S3x768 : Shape := ⟨2, ![3, 768]⟩
abbrev S3 : Shape := ⟨1, ![3]⟩
abbrev S768x768 : Shape := ⟨2, ![768, 768]⟩
abbrev S768 : Shape := ⟨1, ![768]⟩
abbrev S32768x3 : Shape := ⟨2, ![32768, 3]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S4x768x128x64 .f32) (main_arg1 : FVec F S3x768 .f32) (main_arg2 : FVec F S3 .f32) (main_arg3 : FVec F S3x768 .f32) (main_arg4 : FVec F S3 .f32) (main_arg5 : FVec F S768x768 .f32) (main_arg6 : FVec F S768 .f32) (main_arg7 : FVec F S32768x3 .f32) : IVec S3 1 :=
  let main_cst : FVec F S_ .f32 := constant S_ .f32 0x00000000#32
  let main_v0 : FVec F S3 .f32 := broadcastInDim S3 ![] bcast_S_S3 main_cst
  let main_v1 : IVec S3 1 := cmpf .oeq main_arg2 main_v0
  let main_cst_0 : FVec F S_ .f32 := constant S_ .f32 0x00000000#32
  let main_v2 : FVec F S3 .f32 := broadcastInDim S3 ![] bcast_S_S3 main_cst_0
  let main_v3 : IVec S3 1 := cmpf .oeq main_arg4 main_v2
  let main_v4 : IVec S3 1 := andi main_v1 main_v3
  main_v4
-- ==== Pre_gating_finite.lean ====
abbrev S4x768x128x64 : Shape := ⟨4, ![4, 768, 128, 64]⟩
abbrev S3x768 : Shape := ⟨2, ![3, 768]⟩
abbrev S3 : Shape := ⟨1, ![3]⟩
abbrev S768x768 : Shape := ⟨2, ![768, 768]⟩
abbrev S768 : Shape := ⟨1, ![768]⟩
abbrev S32768x3 : Shape := ⟨2, ![32768, 3]⟩
abbrev S_ : Shape := ⟨0, ![]⟩

class Facts : Prop where
  bcast_S_S4x768x128x64 : S_.BroadcastsInDim S4x768x128x64 (![] : Fin 0 → Fin S4x768x128x64.rank)
  reducesTo_S4x768x128x64_S_d0_1_2_3 : S4x768x128x64.ReducesTo [0, 1, 2, 3] S_
  h_S_ : 0 < S_.numel
  bcast_S_S3x768 : S_.BroadcastsInDim S3x768 (![] : Fin 0 → Fin S3x768.rank)
  reducesTo_S3x768_S_d0_1 : S3x768.ReducesTo [0, 1] S_
  bcast_S_S3 : S_.BroadcastsInDim S3 (![] : Fin 0 → Fin S3.rank)
  reducesTo_S3_S_d0 : S3.ReducesTo [0] S_
  bcast_S_S32768x3 : S_.BroadcastsInDim S32768x3 (![] : Fin 0 → Fin S32768x3.rank)
  reducesTo_S32768x3_S_d0_1 : S32768x3.ReducesTo [0, 1] S_

variable [Facts]

def fn_part1 {F : FTy → Type} [FloatOps F] (main_arg4 : FVec F S3 .f32) (main_arg7 : FVec F S32768x3 .f32) (main_v13 : IVec S_ 1) (main_v16 : IVec S3x768 1) : IVec S_ 1 :=
  let main_c_5 : IVec S_ 1 := constantI S_ 1 1#1
  let main_v17 : IVec S_ 1 := (fun x v => Host.reduce IntOp.andi x v reducesTo_S3x768_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S32768x3 .f32 := Host.absf main_arg7
  let main_cst_8 : FVec F S_ .f32 := constant S_ .f32 0x7F800000#32
  let main_v25 : FVec F S32768x3 .f32 := broadcastInDim S32768x3 ![] bcast_S_S32768x3 main_cst_8
  let main_v26 : IVec S32768x3 1 := cmpf .olt main_v24 main_v25
  let main_c_9 : IVec S_ 1 := constantI S_ 1 1#1
  let main_v27 : IVec S_ 1 := (fun x v => Host.reduce IntOp.andi x v reducesTo_S32768x3_S_d0_1 h_S_) main_v26 main_c_9
  let main_v28 : IVec S_ 1 := andi main_v23 main_v27
  main_v28

def fn {F : FTy → Type} [FloatOps F] (main_arg0 : FVec F S4x768x128x64 .f32) (main_arg1 : FVec F S3x768 .f32) (main_arg2 : FVec F S3 .f32) (main_arg3 : FVec F S3x768 .f32) (main_arg4 : FVec F S3 .f32) (main_arg5 : FVec F S768x768 .f32) (main_arg6 : FVec F S768 .f32) (main_arg7 : FVec F S32768x3 .f32) : IVec S_ 1 :=
  let main_v0 : FVec F S4x768x128x64 .f32 := Host.absf main_arg0
  let main_cst : FVec F S_ .f32 := constant S_ .f32 0x7F800000#32
  let main_v1 : FVec F S4x768x128x64 .f32 := broadcastInDim S4x768x128x64 ![] bcast_S_S4x768x128x64 main_cst
  let main_v2 : IVec S4x768x128x64 1 := cmpf .olt main_v0 main_v1
  let main_c : IVec S_ 1 := constantI S_ 1 1#1
  let main_v3 : IVec S_ 1 := (fun x v => Host.reduce IntOp.andi x v reducesTo_S4x768x128x64_S_d0_1_2_3 h_S_) main_v2 main_c
  let main_v4 : FVec F S3x768 .f32 := Host.absf main_arg1
  let main_cst_0 : FVec F S_ .f32 := constant S_ .f32 0x7F800000#32
  let main_v5 : FVec F S3x768 .f32 := broadcastInDim S3x768 ![] bcast_S_S3x768 main_cst_0
  let main_v6 : IVec S3x768 1 := cmpf .olt main_v4 main_v5
  let main_c_1 : IVec S_ 1 := constantI S_ 1 1#1
  let main_v7 : IVec S_ 1 := (fun x v => Host.reduce IntOp.andi x v reducesTo_S3x768_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x768 .f32 := Host.absf main_arg3
  let main_cst_4 : FVec F S_ .f32 := constant S_ .f32 0x7F800000#32
  let main_v15 : FVec F S3x768 .f32 := broadcastInDim S3x768 ![] bcast_S_S3x768 main_cst_4
  let main_v16 : IVec S3x768 1 := cmpf .olt main_v14 main_v15
  fn_part1 (F := F) main_arg4 main_arg7 main_v13 main_v16
-- ==== Kernel.lean ====
abbrev S4x768x128x64 : Shape := ⟨4, ![4, 768, 128, 64]⟩
abbrev S3x768 : Shape := ⟨2, ![3, 768]⟩
abbrev S3 : Shape := ⟨1, ![3]⟩
abbrev S768x768 : Shape := ⟨2, ![768, 768]⟩
abbrev S768 : Shape := ⟨1, ![768]⟩
abbrev S32768x3 : Shape := ⟨2, ![32768, 3]⟩
abbrev S4x768x8192 : Shape := ⟨3, ![4, 768, 8192]⟩
abbrev S4x8192x3 : Shape := ⟨3, ![4, 8192, 3]⟩
abbrev S4x3x8192 : Shape := ⟨3, ![4, 3, 8192]⟩
abbrev S768x1 : Shape := ⟨2, ![768, 1]⟩
abbrev S6x768 : Shape := ⟨2, ![6, 768]⟩
abbrev S1x768x2048 : Shape := ⟨3, ![1, 768, 2048]⟩
abbrev S1x3x2048 : Shape := ⟨3, ![1, 3, 2048]⟩
abbrev S768x2048 : Shape := ⟨2, ![768, 2048]⟩
abbrev S3x2048 : Shape := ⟨2, ![3, 2048]⟩
abbrev S6x2048 : Shape := ⟨2, ![6, 2048]⟩
abbrev S2048 : Shape := ⟨1, ![2048]⟩
abbrev S1x2048 : Shape := ⟨2, ![1, 2048]⟩

abbrev nBuf : Space → Nat
  | .hbm => 15
  | .vmem => 9
  | .smem => 0
  | _ => 0

abbrev bufTy : (tb : Table) → Fin (tcTables nBuf tb) → BufTy
  | .hbm, ⟨0, _⟩ => ⟨S4x768x128x64, .f32⟩
  | .hbm, ⟨1, _⟩ => ⟨S3x768, .f32⟩
  | .hbm, ⟨2, _⟩ => ⟨S3, .f32⟩
  | .hbm, ⟨3, _⟩ => ⟨S3x768, .f32⟩
  | .hbm, ⟨4, _⟩ => ⟨S3, .f32⟩
  | .hbm, ⟨5, _⟩ => ⟨S768x768, .f32⟩
  | .hbm, ⟨6, _⟩ => ⟨S768, .f32⟩
  | .hbm, ⟨7, _⟩ => ⟨S32768x3, .f32⟩
  | .hbm, ⟨8, _⟩ => ⟨S4x768x8192, .f32⟩
  | .hbm, ⟨9, _⟩ => ⟨S4x8192x3, .f32⟩
  | .hbm, ⟨10, _⟩ => ⟨S4x3x8192, .f32⟩
  | .hbm, ⟨11, _⟩ => ⟨S768x1, .f32⟩
  | .hbm, ⟨12, _⟩ => ⟨S6x768, .f32⟩
  | .hbm, ⟨13, _⟩ => ⟨S4x768x8192, .f32⟩
  | .hbm, ⟨14, _⟩ => ⟨S4x768x128x64, .f32⟩
  | .local _ .vmem, ⟨0, _⟩ => ⟨S1x768x2048, .f32⟩
  | .local _ .vmem, ⟨1, _⟩ => ⟨S1x768x2048, .f32⟩
  | .local _ .vmem, ⟨2, _⟩ => ⟨S1x3x2048, .f32⟩
  | .local _ .vmem, ⟨3, _⟩ => ⟨S1x3x2048, .f32⟩
  | .local _ .vmem, ⟨4, _⟩ => ⟨S6x768, .f32⟩
  | .local _ .vmem, ⟨5, _⟩ => ⟨S768x768, .f32⟩
  | .local _ .vmem, ⟨6, _⟩ => ⟨S768x1, .f32⟩
  | .local _ .vmem, ⟨7, _⟩ => ⟨S1x768x2048, .f32⟩
  | .local _ .vmem, ⟨8, _⟩ => ⟨S1x768x2048, .f32⟩
  | _, _ => ⟨S4x768x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x768x128x64 : Shape := ⟨4, ![4, 768, 128, 64]⟩
abbrev S3x768 : Shape := ⟨2, ![3, 768]⟩
abbrev S3 : Shape := ⟨1, ![3]⟩
abbrev S768x768 : Shape := ⟨2, ![768, 768]⟩
abbrev S768 : Shape := ⟨1, ![768]⟩
abbrev S32768x3 : Shape := ⟨2, ![32768, 3]⟩
abbrev S4x128x64x768 : Shape := ⟨4, ![4, 128, 64, 768]⟩
abbrev S32768x768 : Shape := ⟨2, ![32768, 768]⟩
abbrev S768x3 : Shape := ⟨2, ![768, 3]⟩
abbrev S1x3 : Shape := ⟨2, ![1, 3]⟩
abbrev S_ : Shape := ⟨0, ![]⟩
abbrev S32768 : Shape := ⟨1, ![32768]⟩
abbrev S32768x1 : Shape := ⟨2, ![32768, 1]⟩
abbrev S32768x2 : Shape := ⟨2, ![32768, 2]⟩
abbrev S32768x2x1 : Shape := ⟨3, ![32768, 2, 1]⟩
abbrev S32768x2x2 : Shape := ⟨3, ![32768, 2, 2]⟩
abbrev S1x768 : Shape := ⟨2, ![1, 768]⟩

abbrev nBuf : Space → Nat
  | .hbm => 106
  | .vmem => 0
  | .smem => 0
  | _ => 0

abbrev bufTy : (tb : Table) → Fin (tcTables nBuf tb) → BufTy
  | .hbm, ⟨0, _⟩ => ⟨S4x768x128x64, .f32⟩
  | .hbm, ⟨1, _⟩ => ⟨S3x768, .f32⟩
  | .hbm, ⟨2, _⟩ => ⟨S3, .f32⟩
  | .hbm, ⟨3, _⟩ => ⟨S3x768, .f32⟩
  | .hbm, ⟨4, _⟩ => ⟨S3, .f32⟩
  | .hbm, ⟨5, _⟩ => ⟨S768x768, .f32⟩
  | .hbm, ⟨6, _⟩ => ⟨S768, .f32⟩
  | .hbm, ⟨7, _⟩ => ⟨S32768x3, .f32⟩
  | .hbm, ⟨8, _⟩ => ⟨S4x128x64x768, .f32⟩
  | .hbm, ⟨9, _⟩ => ⟨S32768x768, .f32⟩
  | .hbm, ⟨10, _⟩ => ⟨S768x3, .f32⟩
  | .hbm, ⟨11, _⟩ => ⟨S32768x3, .f32⟩
  | .hbm, ⟨12, _⟩ => ⟨S1x3, .f32⟩
  | .hbm, ⟨13, _⟩ => ⟨S32768x3, .f32⟩
  | .hbm, ⟨14, _⟩ => ⟨S32768x3, .f32⟩
  | .hbm, ⟨15, _⟩ => ⟨S768x3, .f32⟩
  | .hbm, ⟨16, _⟩ => ⟨S32768x3, .f32⟩
  | .hbm, ⟨17, _⟩ => ⟨S1x3, .f32⟩
  | .hbm, ⟨18, _⟩ => ⟨S32768x3, .f32⟩
  | .hbm, ⟨19, _⟩ => ⟨S32768x3, .f32⟩
  | .hbm, ⟨20, _⟩ => ⟨S_, .f32⟩
  | .hbm, ⟨21, _⟩ => ⟨S32768, .f32⟩
  | .hbm, ⟨22, _⟩ => ⟨S_, .f32⟩
  | .hbm, ⟨23, _⟩ => ⟨S32768, .f32⟩
  | .hbm, ⟨24, _⟩ => ⟨S32768, .f32⟩
  | .hbm, ⟨25, _⟩ => ⟨S32768x1, .f32⟩
  | .hbm, ⟨26, _⟩ => ⟨S32768x3, .f32⟩
  | .hbm, ⟨27, _⟩ => ⟨S32768x3, .f32⟩
  | .hbm, ⟨28, _⟩ => ⟨S32768x3, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S32768x3, .f32⟩
  | .hbm, ⟨33, _⟩ => ⟨S32768x3, .f32⟩
  | .hbm, ⟨34, _⟩ => ⟨S32768x3, .f32⟩
  | .hbm, ⟨35, _⟩ => ⟨S32768x3, .f32⟩
  | .hbm, ⟨36, _⟩ => ⟨S32768x2, .f32⟩
  | .hbm, ⟨37, _⟩ => ⟨S32768x2, .i32⟩
  | .hbm, ⟨38, _⟩ => ⟨S32768, .i32⟩
  | .hbm, ⟨39, _⟩ => ⟨S32768x1, .i32⟩
  | .hbm, ⟨40, _⟩ => ⟨S_, .f32⟩
  | .hbm, ⟨41, _⟩ => ⟨S32768x3, .f32⟩
  | .hbm, ⟨42, _⟩ => ⟨S_, .i32⟩
  | .hbm, ⟨43, _⟩ => ⟨S32768x1, .i32⟩
  | .hbm, ⟨44, _⟩ => ⟨S32768x1, .i1⟩
  | .hbm, ⟨45, _⟩ => ⟨S_, .i32⟩
  | .hbm, ⟨46, _⟩ => ⟨S32768x1, .i32⟩
  | .hbm, ⟨47, _⟩ => ⟨S32768x1, .i32⟩
  | .hbm, ⟨48, _⟩ => ⟨S32768x1, .i32⟩
  | .hbm, ⟨49, _⟩ => ⟨S_, .i32⟩
  | .hbm, ⟨50, _⟩ => ⟨S32768x2, .i32⟩
  | .hbm, ⟨51, _⟩ => ⟨S32768x2, .i1⟩
  | .hbm, ⟨52, _⟩ => ⟨S_, .i32⟩
  | .hbm, ⟨53, _⟩ => ⟨S32768x2, .i32⟩
  | .hbm, ⟨54, _⟩ => ⟨S32768x2, .i32⟩
  | .hbm, ⟨55, _⟩ => ⟨S32768x2, .i32⟩
  | .hbm, ⟨56, _⟩ => ⟨S32768x2, .i32⟩
  | .hbm, ⟨57, _⟩ => ⟨S32768x2x1, .i32⟩
  | .hbm, ⟨58, _⟩ => ⟨S32768x2x1, .i32⟩
  | .hbm, ⟨59, _⟩ => ⟨S32768x2x2, .i32⟩
  | .hbm, ⟨60, _⟩ => ⟨S32768x3, .f32⟩
  | .hbm, ⟨61, _⟩ => ⟨S_, .f32⟩
  | .hbm, ⟨62, _⟩ => ⟨S32768, .f32⟩
  | .hbm, ⟨63, _⟩ => ⟨S_, .f32⟩
  | .hbm, ⟨64, _⟩ => ⟨S32768, .f32⟩
  | .hbm, ⟨65, _⟩ => ⟨S32768, .f32⟩
  | .hbm, ⟨66, _⟩ => ⟨S32768x1, .f32⟩
  | .hbm, ⟨67, _⟩ => ⟨S32768x3, .f32⟩
  | .hbm, ⟨68, _⟩ => ⟨S32768x3, .f32⟩
  | .hbm, ⟨69, _⟩ => ⟨S32768x3, .f32⟩
  | .hbm, ⟨70, _⟩ => ⟨S_, .f32⟩
  | .hbm, ⟨71, _⟩ => ⟨S32768, .f32⟩
  | .hbm, ⟨72, _⟩ => ⟨S32768x1, .f32⟩
  | .hbm, ⟨73, _⟩ => ⟨S32768x3, .f32⟩
  | .hbm, ⟨74, _⟩ => ⟨S32768x3, .f32⟩
  | .hbm, ⟨75, _⟩ => ⟨S_, .f32⟩
  | .hbm, ⟨76, _⟩ => ⟨S32768x768, .f32⟩
  | .hbm, ⟨77, _⟩ => ⟨S768x768, .f32⟩
  | .hbm, ⟨78, _⟩ => ⟨S32768x768, .f32⟩
  | .hbm, ⟨79, _⟩ => ⟨S1x768, .f32⟩
  | .hbm, ⟨80, _⟩ => ⟨S32768x768, .f32⟩
  | .hbm, ⟨81, _⟩ => ⟨S32768x768, .f32⟩
  | .hbm, ⟨82, _⟩ => ⟨S32768x1, .f32⟩
  | .hbm, ⟨83, _⟩ => ⟨S32768x768, .f32⟩
  | .hbm, ⟨84, _⟩ => ⟨S32768x768, .f32⟩
  | .hbm, ⟨85, _⟩ => ⟨S32768x768, .f32⟩
  | .hbm, ⟨86, _⟩ => ⟨S768x768, .f32⟩
  | .hbm, ⟨87, _⟩ => ⟨S32768x768, .f32⟩
  | .hbm, ⟨88, _⟩ => ⟨S1x768, .f32⟩
  | .hbm, ⟨89, _⟩ => ⟨S32768x768, .f32⟩
  | .hbm, ⟨90, _⟩ => ⟨S32768x768, .f32⟩
  | .hbm, ⟨91, _⟩ => ⟨S32768x1, .f32⟩
  | .hbm, ⟨92, _⟩ => ⟨S32768x768, .f32⟩
  | .hbm, ⟨93, _⟩ => ⟨S32768x768, .f32⟩
  | .hbm, ⟨94, _⟩ => ⟨S32768x768, .f32⟩
  | .hbm, ⟨95, _⟩ => ⟨S768x768, .f32⟩
  | .hbm, ⟨96, _⟩ => ⟨S32768x768, .f32⟩
  | .hbm, ⟨97, _⟩ => ⟨S1x768, .f32⟩
  | .hbm, ⟨98, _⟩ => ⟨S32768x768, .f32⟩
  | .hbm, ⟨99, _⟩ => ⟨S32768x768, .f32⟩
  | .hbm, ⟨100, _⟩ => ⟨S32768x1, .f32⟩
  | .hbm, ⟨101, _⟩ => ⟨S32768x768, .f32⟩
  | .hbm, ⟨102, _⟩ => ⟨S32768x768, .f32⟩
  | .hbm, ⟨103, _⟩ => ⟨S32768x768, .f32⟩
  | .hbm, ⟨104, _⟩ => ⟨S4x128x64x768, .f32⟩
  | .hbm, ⟨105, _⟩ => ⟨S4x768x128x64, .f32⟩
  | _, _ => ⟨S4x768x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_values : Ref sig .tc := ⟨.hbm, 36, rfl⟩
abbrev main_indices : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Proof.Gating.lean ====
/- The gate of one token, as extended reals: three logits, the one dropped, the softmax over the two kept. -/
module

public import Idealize.ShloMosaic.Lib.Pipeline.ValueKit

@[expose] public section

noncomputable section

namespace Cert.Gating

open Idealize.ShloMosaic

/-- The float pattern of minus infinity. -/
theorem neg_inf : Ideal.ofBits .f32 0xFF800000#32 = ⊥ := by simp [Ideal.ofBits, Ideal.ieee]

/-- The float pattern of plus infinity. -/
theorem pos_inf : Ideal.ofBits .f32 0x7F800000#32 = ⊤ := by simp [Ideal.ofBits, Ideal.ieee]

/-- The greatest of three. -/
def rowMax (l : Fin 3 → EReal) : EReal := max (l 0) (max (l 1) (l 2))

/-- The softmax of three entries, shifted by the greatest. -/
def softmax (l : Fin 3 → EReal) (e : Fin 3) : EReal :=
  Ideal.div (Ideal.exp (l e - rowMax l)) (∑ k, Ideal.exp (l k - rowMax l))

/-- The expert a token leaves out: the last of the least logits. -/
def dropped (l : Fin 3 → EReal) : Fin 3 :=
  if l 2 ≤ l 0 ∧ l 2 ≤ l 1 then 2 else if l 1 ≤ l 0 then 1 else 0

/-- The logits with the one left out at `⊥`. -/
def masked (l : Fin 3 → EReal) (e : Fin 3) : EReal := if e = dropped l then ⊥ else l e

/-- The shifted exponentials, zero at the expert left out. -/
def kept (l : Fin 3 → EReal) (e : Fin 3) : EReal := if e = dropped l then 0 else Ideal.exp (l e - rowMax l)

/-- A gate: an exponential over the sum of the two kept. -/
def gate (l : Fin 3 → EReal) (e : Fin 3) : EReal := Ideal.div (kept l e) (∑ k, kept l k)

/-- The scores of a token for the three experts: a product with a row of weights each, and a bias. -/
def score (x : Fin 768 → EReal) (w : Fin 3 → Fin 768 → EReal) (b : Fin 3 → EReal) (e : Fin 3) : EReal :=
  ∑ k, x k * w e k + b e

/-- The logits of a token from its two products `E`, `N` and its noise `U`. -/
def logit (E N U : Fin 3 → EReal) (e : Fin 3) : EReal := E e + U e * softmax N e

/-- The expert left out has a least logit. -/
theorem dropped_le (l : Fin 3 → EReal) (e : Fin 3) : l (dropped l) ≤ l e := by
  unfold dropped
  split_ifs with h1 h2
  · fin_cases e
    exacts [h1.1, h1.2, le_rfl]
  · have h3 : l 1 ≤ l 2 := by
      by_contra hc
      exact h1 ⟨(not_le.1 hc).le.trans h2, (not_le.1 hc).le⟩
    fin_cases e
    exacts [h2, le_rfl, h3]
  · have h3 : l 0 ≤ l 2 := by
      by_contra hc
      exact h1 ⟨(not_le.1 hc).le, (not_le.1 hc).le.trans (not_le.1 h2).le⟩
    fin_cases e
    exacts [le_rfl, (not_le.1 h2).le, h3]

/-- It is the last such. -/
theorem dropped_lt (l : Fin 3 → EReal) (e : Fin 3) (h : dropped l < e) : l (dropped l) < l e := by
  revert h
  unfold dropped
  split_ifs with h1 h2
  · intro h; fin_cases e <;> simp at h
  · intro h
    fin_cases e <;> simp at h
    show l 1 < l 2
    by_contra hc
    exact h1 ⟨(not_lt.1 hc).trans h2, not_lt.1 hc⟩
  · intro h
    fin_cases e <;> simp at h
    · exact not_le.1 h2
    · show l 0 < l 2
      by_contra hc
      exact h1 ⟨not_lt.1 hc, (not_lt.1 hc).trans (not_le.1 h2).le⟩

/-- A position with a least logit and none as small after it is the one left out. -/
theorem eq_dropped (l : Fin 3 → EReal) (d : Fin 3) (hle : ∀ e, l d ≤ l e) (hlt : ∀ e, d < e → l d < l e) : d = dropped l := by
  rcases lt_trichotomy d (dropped l) with h | h | h
  · exact absurd (hlt _ h) (not_lt.2 (dropped_le l d))
  · exact h
  · exact absurd (dropped_lt l d h) (not_lt.2 (hle _))

/-- Leaving out a least logit does not move the greatest. -/
theorem rowMax_masked (l : Fin 3 → EReal) : rowMax (masked l) = rowMax l := by
  have h := dropped_le l
  unfold rowMax masked
  generalize dropped l = d at h
  fin_cases d
  · simpa using Or.inl (h 1)
  · have h2 : l 1 ≤ l 2 := h 2
    simp [max_eq_right h2]
  · have h1 : l 2 ≤ l 1 := h 1
    simp [max_eq_left h1]

/-- The softmax of the masked logits is the gates. -/
theorem softmax_masked (l : Fin 3 → EReal) : softmax (masked l) = gate l := by
  have hk : ∀ e, Ideal.exp (masked l e - rowMax l) = kept l e := fun e => by
    unfold masked kept
    split_ifs
    · rw [EReal.bot_sub]; rfl
    · rfl
  funext e
  unfold softmax gate
  rw [rowMax_masked]
  simp only [hk]

theorem exp_nonneg (x : EReal) : 0 ≤ Ideal.exp x := by
  induction x with
  | bot => exact le_rfl
  | top => exact le_top
  | coe r => exact EReal.coe_nonneg.2 (Real.exp_pos r).le

theorem kept_nonneg (l : Fin 3 → EReal) (e : Fin 3) : 0 ≤ kept l e := by
  unfold kept
  split_ifs
  · exact le_rfl
  · exact exp_nonneg _

/-- The gates applied one by one are their sum applied once, whatever the logits and the value. -/
theorem gates_mul (l : Fin 3 → EReal) (y : EReal) :
    0 + gate l 0 * y + gate l 1 * y + gate l 2 * y = y * ∑ e, gate l e := by
  rw [zero_add, mul_comm y, Fin.sum_univ_three]
  by_cases hS : ∑ k, kept l k = 0
  · have h0 : ∀ e, kept l e = 0 := fun e =>
      (Finset.sum_eq_zero_iff_of_nonneg fun e _ => kept_nonneg l e).1 hS e (Finset.mem_univ e)
    have hg : ∀ e, gate l e = ⊥ := fun e => by
      unfold gate Ideal.div
      rw [hS, h0, if_pos rfl, if_neg (lt_irrefl _)]
    rw [hg, hg, hg, EReal.bot_add, EReal.bot_add]
    rcases lt_trichotomy y 0 with hy | rfl | hy
    · rw [EReal.bot_mul_of_neg hy]; rfl
    · simp
    · rw [EReal.bot_mul_of_pos hy]; rfl
  · have hg : ∀ e, 0 ≤ gate l e := fun e => by
      unfold gate Ideal.div
      rw [if_neg hS]
      exact mul_nonneg (kept_nonneg l e) (EReal.inv_nonneg_of_nonneg (Finset.sum_nonneg fun k _ => kept_nonneg l k))
    rw [EReal.right_distrib_of_nonneg (add_nonneg (hg 0) (hg 1)) (hg 2), EReal.right_distrib_of_nonneg (hg 0) (hg 1)]

/-- The exponential of a real number is a positive real number. -/
theorem exp_coe (r : ℝ) : Ideal.exp ((r : ℝ) : EReal) = ((Real.exp r : ℝ) : EReal) := rfl

/-- The greatest of three real numbers is a real number. -/
theorem rowMax_coe (r : Fin 3 → ℝ) : rowMax (fun e => (r e : EReal)) = ((max (r 0) (max (r 1) (r 2)) : ℝ) : EReal) := by
  unfold rowMax
  push_cast
  rfl

/-- A quotient of real numbers with a divisor other than zero is a real number. -/
theorem div_coe_coe (a b : ℝ) (hb : b ≠ 0) : Ideal.div (a : EReal) (b : EReal) = ((a * b⁻¹ : ℝ) : EReal) := by
  unfold Ideal.div
  rw [if_neg (by exact_mod_cast hb)]
  push_cast
  rfl

/-- The softmax of real numbers is real. -/
theorem softmax_coe (r : Fin 3 → ℝ) (e : Fin 3) : ∃ s : ℝ, softmax (fun k => (r k : EReal)) e = (s : EReal) := by
  unfold softmax
  simp only [rowMax_coe, ← EReal.coe_sub, exp_coe, Fin.sum_univ_three, ← EReal.coe_add]
  rw [div_coe_coe _ _ (by positivity)]
  exact ⟨_, rfl⟩

/-- Real numbers with a positive sum, each over the sum, add up to one. -/
theorem sum_div_coe (f : Fin 3 → ℝ) (h : 0 < ∑ e, f e) : ∑ e, Ideal.div (f e : EReal) (∑ k, (f k : EReal)) = 1 := by
  rw [Fin.sum_univ_three] at h
  simp only [Fin.sum_univ_three, ← EReal.coe_add]
  simp only [div_coe_coe _ _ h.ne', ← EReal.coe_add]
  rw [← add_mul, ← add_mul, mul_inv_cancel₀ h.ne']
  rfl

/-- The gates of real logits add up to one. -/
theorem sum_gate_coe (r : Fin 3 → ℝ) : ∑ e, gate (fun k => (r k : EReal)) e = 1 := by
  set M := max (r 0) (max (r 1) (r 2))
  set d := dropped fun k => (r k : EReal)
  have hk : ∀ e, kept (fun k => (r k : EReal)) e = ((if e = d then 0 else Real.exp (r e - M) : ℝ) : EReal) := fun e => by
    unfold kept
    rw [rowMax_coe, ← EReal.coe_sub, exp_coe]
    split_ifs
    · rfl
    · rfl
  have hpos : ∀ e, 0 ≤ (if e = d then 0 else Real.exp (r e - M) : ℝ) := fun e => by
    split_ifs
    · exact le_rfl
    · exact (Real.exp_pos _).le
  have hS : 0 < ∑ e, (if e = d then 0 else Real.exp (r e - M) : ℝ) := by
    obtain ⟨e, he⟩ : ∃ e : Fin 3, e ≠ d := exists_ne d
    refine Finset.sum_pos' (fun e _ => hpos e) ⟨e, Finset.mem_univ e, ?_⟩
    rw [if_neg he]
    exact Real.exp_pos _
  unfold gate
  simp only [hk]
  exact sum_div_coe _ hS

/-- The greatest of three numbers, folded from below. -/
theorem fold_max (l : Fin 3 → EReal) : Finset.fold max ⊥ l Finset.univ = rowMax l := by
  rw [show (Finset.univ : Finset (Fin 3)) = {0, 1, 2} from rfl, Finset.fold_insert (by decide),
    Finset.fold_insert (by decide), Finset.fold_singleton, rowMax, max_bot_right]

end Cert.Gating

end
-- ==== Proof.KernelGate.lean ====
/- The kernel's gates at an index: the kept exponentials of the token's logits. -/
module

public import proofs.«01_k».proof.Proof.Gating
public import proofs.«01_k».proof.Proof.Gen.KernelIdeal.Skeleton
public import Idealize.ShloMosaic.Lib.Pointwise

@[expose] public section

set_option maxRecDepth 16384

noncomputable section

namespace Cert.KernelIdeal.Value

open Cert.KernelIdeal Cert.KernelIdeal.Gen Idealize.ShloMosaic Cert.Gating

/-- The least of three numbers, folded from above, is the number at the dropped position. -/
theorem fold_min (l : Fin 3 → EReal) : Finset.fold min ⊤ l Finset.univ = l (dropped l) := by
  rw [show (Finset.univ : Finset (Fin 3)) = {0, 1, 2} from rfl, Finset.fold_insert (by decide),
    Finset.fold_insert (by decide), Finset.fold_singleton, min_top_right]
  have h := dropped_le l
  refine le_antisymm ?_ (le_min (h 0) (le_min (h 1) (h 2)))
  generalize dropped l = d
  match d with
  | 0 => exact min_le_left _ _
  | 1 => exact (min_le_right _ _).trans (min_le_left _ _)
  | 2 => exact (min_le_right _ _).trans (min_le_right _ _)

/-- The last position holding the least logit, found as a greatest number, is the dropped position. -/
theorem fold_dropped (l : Fin 3 → EReal) :
    Finset.fold IntOp.maxsi (2147483648#32) (fun k : Fin 3 => if l k = Finset.fold min ⊤ l Finset.univ then BitVec.ofNat 32 k.val else 4294967295#32) Finset.univ
      = BitVec.ofNat 32 (dropped l).val := by
  rw [fold_min, show (Finset.univ : Finset (Fin 3)) = {0, 1, 2} from rfl, Finset.fold_insert (by decide),
    Finset.fold_insert (by decide), Finset.fold_singleton]
  have h := dropped_lt l
  generalize dropped l = d at h
  have hn : ∀ e, d < e → l e ≠ l d := fun e he => (h e he).ne'
  match d, hn with
  | 0, hn =>
    rw [if_pos rfl, if_neg (hn 1 (by decide)), if_neg (hn 2 (by decide))]; decide
  | 1, hn =>
    rw [if_pos rfl, if_neg (hn 2 (by decide))]
    split <;> decide
  | 2, hn =>
    rw [if_pos rfl]
    split <;> split <;> decide

/-- The kept exponential, selected by comparing positions. -/
theorem kept_select (l : Fin 3 → EReal) (e : Fin 3) :
    Scalar.select (IntOp.cmpi .ne (BitVec.ofNat 32 e.val)
        (Finset.fold IntOp.maxsi (2147483648#32) (fun k : Fin 3 => if l k = Finset.fold min ⊤ l Finset.univ then BitVec.ofNat 32 k.val else 4294967295#32) Finset.univ))
      (Ideal.exp (l e - rowMax l)) 0 = kept l e := by
  rw [fold_dropped, kept]
  generalize dropped l = d
  generalize Ideal.exp _ = v
  have h : ∀ e d : Fin 3, IntOp.cmpi .ne (BitVec.ofNat 32 e.val) (BitVec.ofNat 32 d.val) = if e = d then 0#1 else 1#1 := by decide
  rw [h]
  split <;> rfl

/-- The router's products for one token of a block: three rows of weights from `o` on. -/
def rows (x2 : FVec Ideal S6x768 .f32) (x : Fin 768 → EReal) (o : ℕ) (ho : o + 3 ≤ 6) (e : Fin 3) : EReal :=
  ∑ k, x2 (ix2 ⟨o + e.val, by omega⟩ k) * x k

/-- The kept exponentials of one token of a block. -/
theorem gates_at (x0 : FVec Ideal S1x768x2048 .f32) (x1 : FVec Ideal S1x3x2048 .f32) (x2 : FVec Ideal S6x768 .f32) (e : Fin 3) (t : Fin 2048) :
    k0_pay3 (F := Ideal) x0 x1 x2 (ix2 e t) = kept (logit (rows x2 (fun k => x0 (ix3 0 k t)) 0 (by decide))
      (rows x2 (fun k => x0 (ix3 0 k t)) 3 (by decide)) (fun k => x1 (ix3 0 k t))) e := by
  rw [← kept_select]
  unfold logit softmax rows
  pointwise [k0_pay3, k0_pay2, Gating.neg_inf, Gating.pos_inf, fold_max]

/-- One entry of a block's result: the token's value times the sum of its gates. -/
theorem block_at (x0 : FVec Ideal S1x768x2048 .f32) (x1 : FVec Ideal S1x3x2048 .f32) (x2 : FVec Ideal S6x768 .f32)
    (x3 : FVec Ideal S768x768 .f32) (x4 : FVec Ideal S768x1 .f32) (o : Fin 768) (t : Fin 2048) :
    k0_pay1 (F := Ideal) (k0_pay2 x0) (k0_pay3 x0 x1 x2) (k0_pay4 x0 x1 x2) x3 x4 (ix3 0 o t)
      = (∑ k, x3 (ix2 o k) * x0 (ix3 0 k t) + x4 (ix2 o 0)) * ∑ e, gate (logit (rows x2 (fun k => x0 (ix3 0 k t)) 0 (by decide))
      (rows x2 (fun k => x0 (ix3 0 k t)) 3 (by decide)) (fun k => x1 (ix3 0 k t))) e := by
  unfold gate
  pointwise [k0_pay1, k0_pay4, k0_pay2, gates_at]

end Cert.KernelIdeal.Value

end
-- ==== Proof.KernelArray.lean ====
/- The array the kernel's launch leaves: every entry as one formula of the arrays at the launch. -/
module

public import proofs.«01_k».proof.Proof.KernelGate
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem Cert.Gating
open Idealize.ShloMosaic.Pipeline (Dat)

/-- The result for one token: its value times the sum of its gates, from the token's features `x` and its noise `u`. -/
def tokenResult (x2 : FVec Ideal S6x768 .f32) (w : Fin 768 → EReal) (b : EReal) (x : Fin 768 → EReal) (u : Fin 3 → EReal) : EReal :=
  (∑ k, w k * x k + b) * ∑ e, gate (logit (rows x2 x 0 (by decide)) (rows x2 x 3 (by decide)) u) e

/-- The array of results of all tokens. -/
def results (x0 : FVec Ideal S4x768x8192 .f32) (x1 : FVec Ideal S4x3x8192 .f32) (x2 : FVec Ideal S6x768 .f32)
    (x3 : FVec Ideal S768x768 .f32) (x4 : FVec Ideal S768x1 .f32) : FVec Ideal S4x768x8192 .f32 := fun i =>
  tokenResult x2 (fun k => x3 (ix2 (i 1) k)) (x4 (ix2 (i 1) 0)) (fun k => x0 (ix3 (i 0) k (i 2))) (fun k => x1 (ix3 (i 0) k (i 2)))

theorem results_at (x0 : FVec Ideal S4x768x8192 .f32) (x1 : FVec Ideal S4x3x8192 .f32) (x2 : FVec Ideal S6x768 .f32)
    (x3 : FVec Ideal S768x768 .f32) (x4 : FVec Ideal S768x1 .f32) (b : Fin 4) (o : Fin 768) (s : Fin 8192) :
    results x0 x1 x2 x3 x4 (ix3 b o s)
      = tokenResult x2 (fun k => x3 (ix2 o k)) (x4 (ix2 o 0)) (fun k => x0 (ix3 b k s)) (fun k => x1 (ix3 b k s)) := rfl

variable (m : (ℓ : Loc nD τ sig) → Buf (Elt Ideal) ℓ) (ρ : Dev nD → PrngReg)

/-- Where each window lies at a grid point. -/
theorem idx : ∀ t : Fin cfg0.N, win0_0.index t = ![t.val / 4, 0, t.val % 4] ∧ win0_1.index t = ![t.val / 4, 0, t.val % 4]
    ∧ win0_2.index t = ![0, 0] ∧ win0_3.index t = ![0, 0] ∧ win0_4.index t = ![0, 0] ∧ win0_5.index t = ![t.val / 4, 0, t.val % 4] :=
  (by decide +kernel : ∀ t : Fin grid0.N, _)

/-- One entry of a block's result is the entry of the whole array where the block lies. -/
theorem tile (X0 : FVec Ideal S4x768x8192 .f32) (X1 : FVec Ideal S4x3x8192 .f32) (x2 : FVec Ideal S6x768 .f32)
    (x3 : FVec Ideal S768x768 .f32) (x4 : FVec Ideal S768x1 .f32) (x0 : FVec Ideal S1x768x2048 .f32) (x1 : FVec Ideal S1x3x2048 .f32)
    (b : Fin 4) (o : Fin 768) (t : Fin 2048) (s : Fin 8192)
    (h0 : ∀ k, x0 (ix3 0 k t) = X0 (ix3 b k s)) (h1 : ∀ k, x1 (ix3 0 k t) = X1 (ix3 b k s)) :
    k0_pay1 (F := Ideal) (k0_pay2 x0) (k0_pay3 x0 x1 x2) (k0_pay4 x0 x1 x2) x3 x4 (ix3 0 o t) = results X0 X1 x2 x3 x4 (ix3 b o s) := by
  rw [block_at, results_at, tokenResult]
  simp only [h0, h1]

section Blocks
variable (c : Dev nD) (t : Fin cfg0.N)

theorem scores_block : iblk m c 2 t = V m c main_v4 := by blk_ext! [iblk, idx t]

theorem weights_block : iblk m c 3 t = V m c main_arg5 := by blk_ext! [iblk, idx t]

theorem bias_block : iblk m c 4 t = V m c main_v3 := by blk_ext! [iblk, idx t]

theorem image_block (b : Fin 4) (s : Fin 8192) (k : Fin 768) (y : Fin 2048) (hb : b.val = t.val / 4) (hs : s.val = t.val % 4 * 2048 + y.val) :
    iblk m c 0 t (ix3 0 k y) = V m c main_v0 (ix3 b k s) := by blk_ext [iblk, idx t]

theorem noise_block (b : Fin 4) (s : Fin 8192) (k : Fin 3) (y : Fin 2048) (hb : b.val = t.val / 4) (hs : s.val = t.val % 4 * 2048 + y.val) :
    iblk m c 1 t (ix3 0 k y) = V m c main_v2 (ix3 b k s) := by blk_ext [iblk, idx t]

theorem result_block (b : Fin 4) (o : Fin 768) (s : Fin 8192) (y : S1x768x2048.Idx) (hb : b.val = t.val / 4) (ho : o = y 1) (hs : s.val = t.val % 4 * 2048 + (y 2).val) :
    ((cfg0.win 5).blk t).view.emb y = ix3 b o s := by
  subst ho
  blk_ext [idx t]

end Blocks

/-- What a grid point stores, at an index of its block. -/
theorem point (c : Dev nD) (t : Fin cfg0.N) (y : S1x768x2048.Idx) :
    k0_pay1 (F := Ideal) (k0_pay2 (iblk m c 0 t)) (k0_pay3 (iblk m c 0 t) (iblk m c 1 t) (iblk m c 2 t)) (k0_pay4 (iblk m c 0 t) (iblk m c 1 t) (iblk m c 2 t)) (iblk m c 3 t) (iblk m c 4 t) y
      = results (V m c main_v0) (V m c main_v2) (V m c main_v4) (V m c main_arg5) (V m c main_v3) (((cfg0.win 5).blk t).view.emb y) := by
  have ht : t.val < 16 := t.isLt
  have hy2 : (y 2).val < 2048 := (y 2).isLt
  rw [scores_block, weights_block, bias_block, result_block t ⟨t.val / 4, by omega⟩ (y 1) ⟨t.val % 4 * 2048 + (y 2).val, by omega⟩ y rfl rfl rfl]
  have hy : y = ix3 0 (y 1) (y 2) := by
    funext a
    match a with
    | ⟨0, _⟩ => exact Subsingleton.elim (α := Fin 1) _ _
    | ⟨1, _⟩ => rfl
    | ⟨2, _⟩ => rfl
  refine (congrArg _ hy).trans ?_
  exact tile _ _ _ _ _ _ _ _ (y 1) (y 2) _ (fun k => image_block m c t _ _ k _ rfl rfl) (fun k => noise_block m c t _ _ k _ rfl rfl)

/-- The array after the launch. -/
theorem final (c : Dev nD) : (dats m 0 c).arrAt 5 (cfgs 0).N
    = results (V m c main_v0) (V m c main_v2) (V m c main_v4) (V m c main_arg5) (V m c main_v3) := by
  refine (dats m 0 c).arrAt_eq_of_covers 5 _ (by decide +kernel) fun t _ y => ?_
  blk_simp
  rw [after0_5]
  frame_out
  exact point m c t y

/-- The program's result buffer after the run: the array, with its last axis split. -/
theorem tail_value (c : Dev nD) : Pipeline.afterTail₀ cfgs (dats m) 0 (V0 m) [hostOps1] c main_v6
    = shapeCast S4x768x128x64 (results (V m c main_v0) (V m c main_v2) (V m c main_v4) (V m c main_arg5) (V m c main_v3)) shapeCasts_S4x768x8192_S4x768x128x64 := by
  rw [← final]
  unfold Pipeline.afterTail₀
  show StableHlo.after hostOps1 _ _ = _
  after_results
  rw [Pipeline.withArrays_arr (cfgs 0).spec (by decide +kernel) c (V0 m c) (fun w => (dats m 0 c).arrAt w (cfgs 0).N) 5]
  rfl

end Cert.KernelIdeal.Value

end
-- ==== Proof.Equation.lean ====
/- The two programs' result for one token, and why they are equal: at zero biases the logits are the same, and for real
   inputs the gates sum to one whatever the logits are. -/
module

public import proofs.«01_k».proof.Proof.Gating

@[expose] public section

noncomputable section

namespace Cert.Gating

open Idealize.ShloMosaic

/-- A router's products for one token, without a bias. -/
def product (x : Fin 768 → EReal) (w : Fin 3 → Fin 768 → EReal) (e : Fin 3) : EReal := ∑ k, w e k * x k

/-- One result for one token: the token's value times the sum of its gates. -/
def weighted (x w : Fin 768 → EReal) (b : EReal) (l : Fin 3 → EReal) : EReal := (∑ k, x k * w k + b) * ∑ e, gate l e

/-- A zero bias leaves the products alone. -/
theorem score_zero (x : Fin 768 → EReal) (w : Fin 3 → Fin 768 → EReal) (b : Fin 3 → EReal) (hb : ∀ e, b e = 0) : score x w b = product x w := by
  funext e
  simp only [score, product, hb, add_zero, mul_comm]

/-- The number is real. -/
def IsReal (a : EReal) : Prop := ∃ r : ℝ, a = r

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {n : ℕ} (f : Fin n → EReal) (hf : ∀ k, IsReal (f k)) : IsReal (∑ k, f k) :=
  Finset.sum_induction f IsReal (fun _ _ => IsReal.add) ⟨0, rfl⟩ fun k _ => hf k

/-- A number of absolute value below infinity is real. -/
theorem IsReal.of_abs_lt {a : EReal} (h : max a (-a) < ⊤) : IsReal a := by
  induction a with
  | bot => simp at h
  | coe r => exact ⟨r, rfl⟩
  | top => simp at h

/-- Real scores and real noise give real logits, whose gates sum to one. -/
theorem sum_gate_logit (E N U : Fin 3 → EReal) (hE : ∀ e, IsReal (E e)) (hN : ∀ e, IsReal (N e)) (hU : ∀ e, IsReal (U e)) :
    ∑ e, gate (logit E N U) e = 1 := by
  have hl : ∀ e, IsReal (logit E N U e) := by
    choose n hn using hN
    obtain rfl : N = fun e => (n e : EReal) := funext hn
    exact fun e => (hE e).add ((hU e).mul (softmax_coe n e))
  choose l hl using hl
  rw [show logit E N U = fun e => (l e : EReal) from funext hl]
  exact sum_gate_coe l

theorem score_real (x : Fin 768 → EReal) (w : Fin 3 → Fin 768 → EReal) (b : Fin 3 → EReal)
    (hx : ∀ k, IsReal (x k)) (hw : ∀ e k, IsReal (w e k)) (hb : ∀ e, IsReal (b e)) (e : Fin 3) : IsReal (score x w b e) :=
  (IsReal.sum _ fun k => (hx k).mul (hw e k)).add (hb e)

theorem product_real (x : Fin 768 → EReal) (w : Fin 3 → Fin 768 → EReal)
    (hx : ∀ k, IsReal (x k)) (hw : ∀ e k, IsReal (w e k)) (e : Fin 3) : IsReal (product x w e) :=
  IsReal.sum _ fun k => (hw e k).mul (hx k)

/-- With zero biases the two programs' logits are the same, so are their results. -/
theorem weighted_zero (x w : Fin 768 → EReal) (b : EReal) (wE wN : Fin 3 → Fin 768 → EReal) (bE bN u : Fin 3 → EReal)
    (hE : ∀ e, bE e = 0) (hN : ∀ e, bN e = 0) :
    weighted x w b (logit (product x wE) (product x wN) u) = weighted x w b (logit (score x wE bE) (score x wN bN) u) := by
  rw [score_zero x wE bE hE, score_zero x wN bN hN]

/-- With real gating inputs both programs' results are the token's value. -/
theorem weighted_real (x w : Fin 768 → EReal) (b : EReal) (wE wN : Fin 3 → Fin 768 → EReal) (bE bN u : Fin 3 → EReal)
    (hx : ∀ k, IsReal (x k)) (hwE : ∀ e k, IsReal (wE e k)) (hbE : ∀ e, IsReal (bE e)) (hwN : ∀ e k, IsReal (wN e k)) (hbN : ∀ e, IsReal (bN e))
    (hu : ∀ e, IsReal (u e)) :
    weighted x w b (logit (product x wE) (product x wN) u) = weighted x w b (logit (score x wE bE) (score x wN bN) u) := by
  rw [weighted, weighted, sum_gate_logit _ _ u (product_real x wE hx hwE) (product_real x wN hx hwN) hu,
    sum_gate_logit _ _ u (score_real x wE bE hx hwE hbE) (score_real x wN bN hx hwN hbN) hu]

end Cert.Gating

end
-- ==== Proof.KernelResult.lean ====
/- The kernel's result at an index of the image, in the shared formula. -/
module

public import proofs.«01_k».proof.Proof.KernelArray
public import proofs.«01_k».proof.Proof.Equation

@[expose] public section

set_option maxRecDepth 16384

noncomputable section

namespace Cert.KernelIdeal.Value

open Cert.KernelIdeal Cert.KernelIdeal.Gen Idealize.ShloMosaic Idealize.ShloMosaic.TcCoe Idealize.SL.Sem Cert.Gating
open Idealize.ShloMosaic.Pipeline (Dat)

/-- The kernel's result, of the arguments: the array of results over the re-laid arguments, as an image. -/
def kernelResult (a0 : FVec Ideal S4x768x128x64 .f32) (a1 a3 : FVec Ideal S3x768 .f32) (a5 : FVec Ideal S768x768 .f32) (a6 : FVec Ideal S768 .f32)
    (a7 : FVec Ideal S32768x3 .f32) : FVec Ideal S4x768x128x64 .f32 :=
  shapeCast S4x768x128x64 (results (shapeCast S4x768x8192 a0 shapeCasts_S4x768x128x64_S4x768x8192)
    (transpose S4x3x8192 [0, 2, 1] (shapeCast S4x8192x3 a7 shapeCasts_S32768x3_S4x8192x3) transposes_S4x8192x3_S4x3x8192_0_2_1)
    (concatenate S6x768 0 [⟨S3x768, a1⟩, ⟨S3x768, a3⟩] concatenates_S3x768_S3x768_S6x768_d0) a5
    (shapeCast S768x1 a6 shapeCasts_S768_S768x1)) shapeCasts_S4x768x8192_S4x768x128x64

/-- The first three rows of the joined weights are the experts'. -/
theorem rows_expert (a1 a3 : FVec Ideal S3x768 .f32) (x : Fin 768 → EReal) (h : 0 + 3 ≤ 6) :
    rows (concatenate S6x768 0 [⟨S3x768, a1⟩, ⟨S3x768, a3⟩] concatenates_S3x768_S3x768_S6x768_d0) x 0 h = product x fun e k => a1 (ix2 e k) := by
  funext e
  unfold rows product
  pointwise []

/-- The last three are the noise's. -/
theorem rows_noise (a1 a3 : FVec Ideal S3x768 .f32) (x : Fin 768 → EReal) (h : 3 + 3 ≤ 6) :
    rows (concatenate S6x768 0 [⟨S3x768, a1⟩, ⟨S3x768, a3⟩] concatenates_S3x768_S3x768_S6x768_d0) x 3 h = product x fun e k => a3 (ix2 e k) := by
  funext e
  unfold rows product
  pointwise []

/-- The result of one token with the joined weights. -/
theorem token_weighted (a1 a3 : FVec Ideal S3x768 .f32) (w x : Fin 768 → EReal) (b : EReal) (u : Fin 3 → EReal) :
    tokenResult (concatenate S6x768 0 [⟨S3x768, a1⟩, ⟨S3x768, a3⟩] concatenates_S3x768_S3x768_S6x768_d0) w b x u
      = weighted x w b (logit (product x fun e k => a1 (ix2 e k)) (product x fun e k => a3 (ix2 e k)) u) := by
  rw [tokenResult, rows_expert, rows_noise, weighted]
  simp only [mul_comm]

/-- The kernel's result at an index. -/
theorem kernelResult_at (a0 : FVec Ideal S4x768x128x64 .f32) (a1 a3 : FVec Ideal S3x768 .f32) (a5 : FVec Ideal S768x768 .f32) (a6 : FVec Ideal S768 .f32)
    (a7 : FVec Ideal S32768x3 .f32) (b : Fin 4) (o : Fin 768) (n : Fin 128) (p : Fin 64) (h : b.val * 8192 + n.val * 64 + p.val < 32768) :
    kernelResult a0 a1 a3 a5 a6 a7 (ix4 b o n p) = weighted (fun k => a0 (ix4 b k n p)) (fun k => a5 (ix2 o k)) (a6 (ix1 o))
      (logit (product (fun k => a0 (ix4 b k n p)) fun e k => a1 (ix2 e k)) (product (fun k => a0 (ix4 b k n p)) fun e k => a3 (ix2 e k))
        (fun e => a7 (ix2 ⟨b.val * 8192 + n.val * 64 + p.val, h⟩ e))) := by
  rw [← token_weighted]
  pointwise [kernelResult, results]
  simp only [Nat.add_assoc]

variable (m : (ℓ : Loc nD τ sig) → Buf (Elt Ideal) ℓ) (ρ : Dev nD → PrngReg)

/-! The re-laid arguments when the launch starts. -/

theorem entry_image (c : Dev nD) : V m c main_v0 = shapeCast S4x768x8192 (m ((c.tc : Thread nD τ).loc main_arg0)) shapeCasts_S4x768x128x64_S4x768x8192 := by
  entry_read
  rfl

theorem entry_noise (c : Dev nD) : V m c main_v2
    = transpose S4x3x8192 [0, 2, 1] (shapeCast S4x8192x3 (m ((c.tc : Thread nD τ).loc main_arg7)) shapeCasts_S32768x3_S4x8192x3) transposes_S4x8192x3_S4x3x8192_0_2_1 := by
  entry_read
  rfl

theorem entry_bias (c : Dev nD) : V m c main_v3 = shapeCast S768x1 (m ((c.tc : Thread nD τ).loc main_arg6)) shapeCasts_S768_S768x1 := by
  entry_read
  rfl

theorem entry_weights (c : Dev nD) : V m c main_v4
    = concatenate S6x768 0 [⟨S3x768, m ((c.tc : Thread nD τ).loc main_arg1)⟩, ⟨S3x768, m ((c.tc : Thread nD τ).loc main_arg3)⟩] concatenates_S3x768_S3x768_S6x768_d0 := by
  entry_read
  rfl

/-- The program's result buffer after the run, of the arguments. -/
theorem tail_result (c : Dev nD) : Pipeline.afterTail₀ cfgs (dats m) 0 (V0 m) [hostOps1] c main_v6
    = kernelResult (m ((c.tc : Thread nD τ).loc main_arg0)) (m ((c.tc : Thread nD τ).loc main_arg1)) (m ((c.tc : Thread nD τ).loc main_arg3))
      (m ((c.tc : Thread nD τ).loc main_arg5)) (m ((c.tc : Thread nD τ).loc main_arg6)) (m ((c.tc : Thread nD τ).loc main_arg7)) := by
  rw [tail_value, kernelResult, entry_image, entry_noise, entry_bias, entry_weights, V_main_arg5]

end Cert.KernelIdeal.Value

end
-- ==== Proof.TopTwo.lean ====
/- The two greatest of three, by the host's stable top-k: the positions that are not the one left out. -/
module

public import proofs.«01_k».proof.Proof.Gating
public import Idealize.ShloMosaic.Lib.SortFacts

@[expose] public section

noncomputable section

namespace Cert.Gating

open Idealize.ShloMosaic

/-- A three-entry fiber's stable sort, as insertions. -/
theorem sortPositions_three (B : Fin 3 → Fin 3 → Bool) :
    sortPositions 3 B = if B 2 1 then (if B 2 0 then 2 :: (if B 1 0 then [1, 0] else [0, 1]) else [0, 2, 1])
      else (if B 1 0 then 1 :: (if B 2 0 then [2, 0] else [0, 2]) else [0, 1, 2]) := by
  have h3 : List.finRange 3 = [0, 1, 2] := by decide
  unfold sortPositions
  rw [h3]
  simp only [stableSort, insertBefore]
  split_ifs <;> simp [insertBefore, *]

/-- The position of the `k`-th greatest of three, the earlier first among equals. -/
def place (l : Fin 3 → EReal) (k : Fin 3) : Fin 3 := sortedFrom (fun a b => decide (l b < l a)) k

/-- The last of three sorted positions, by comparisons. -/
theorem sortedFrom_two (B : Fin 3 → Fin 3 → Bool) :
    sortedFrom B 2 = if B 2 1 then (if B 2 0 then (if B 1 0 then 0 else 1) else 1)
      else (if B 1 0 then (if B 2 0 then 0 else 2) else 2) := by
  have h : (sortPositions 3 B)[2]? = some (if B 2 1 then (if B 2 0 then (if B 1 0 then 0 else 1) else 1)
      else (if B 1 0 then (if B 2 0 then 0 else 2) else 2)) := by
    rw [sortPositions_three]
    split_ifs <;> rfl
  exact (List.getElem?_eq_some_iff.1 h).2

/-- The third is the one left out. -/
theorem place_two (l : Fin 3 → EReal) : place l 2 = dropped l := by
  unfold place dropped
  rw [sortedFrom_two]
  simp only [decide_eq_true_eq]
  split_ifs with h1 h2 h3 h4 h5 h6 <;> first | rfl | (exfalso; grind)

/-- The first two places are the positions not left out. -/
theorem place_iff (l : Fin 3 → EReal) (e : Fin 3) : (e = place l 0 ∨ e = place l 1) ↔ e ≠ dropped l := by
  have hinj : Function.Injective (place l) := sortedFrom_injective _
  have hsur : Function.Surjective (place l) := sortedFrom_surjective _
  rw [← place_two]
  constructor
  · rintro (h | h) h'
    · exact absurd (hinj (h.symm.trans h')) (by decide)
    · exact absurd (hinj (h.symm.trans h')) (by decide)
  · intro h
    obtain ⟨k, rfl⟩ := hsur e
    fin_cases k
    · exact Or.inl rfl
    · exact Or.inr rfl
    · exact absurd rfl h

/-- The two greatest written over a filled row, the second after the first: the row masked. -/
theorem masked_select (l : Fin 3 → EReal) (e : Fin 3) (fill : EReal) (hf : fill = ⊥) :
    (if e.val = (place l 1).val then l (place l 1) else if e.val = (place l 0).val then l (place l 0) else fill) = masked l e := by
  have h := place_iff l e
  simp only [Fin.val_inj]
  unfold masked
  by_cases h1 : e = place l 1
  · rw [if_pos h1, if_neg (h.1 (Or.inr h1)), ← h1]
  · by_cases h0 : e = place l 0
    · rw [if_neg h1, if_pos h0, if_neg (h.1 (Or.inl h0)), ← h0]
    · rw [if_neg h1, if_neg h0, hf, if_pos]
      by_contra hd
      exact (h.2 hd).elim h0 h1

end Cert.Gating

end
-- ==== Proof.RefGate.lean ====
/- The reference's gates at a row: the softmax of the row's logits with the one left out at minus infinity. -/
module

public import proofs.«01_k».proof.Proof.TopTwo
public import proofs.«01_k».proof.Proof.Gen.ReferenceIdeal.Run
public import Idealize.ShloMosaic.Lib.ScatterToDense.RefScatter

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Gating

/-- A row of a three-column table. -/
abbrev rowOf (x : FVec Ideal S32768x3 .f32) (r : Fin 32768) : Fin 3 → EReal := fun e => x (ix2 r e)

/-- The host's total comparison of two extended reals. -/
theorem gt_eq (a b : EReal) : ((FloatOps.cmpfTotal (F := Ideal) (φ := .f32) .gt a b == 1#1) : Bool) = decide (b < a) := by
  show ((BitVec.ofBool (decide (b < a))) == 1#1) = decide (b < a)
  cases decide (b < a) <;> rfl

/-- A row's index moved along the columns. -/
theorem ix2_along (r : Fin 32768) (e k : Fin 3) : (ix2 r e : S32768x3.Idx).along 1 k = ix2 r k := by
  funext a
  fin_cases a
  · rfl
  · rfl

/-- The row sorted greatest first: its `k`-th entry and the entry's column. -/
theorem sort_row (x : FVec Ideal S32768x3 .f32) (r : Fin 32768) (k : Fin 3) :
    (Host.sort2 S32768x3 1 (fun l r => FloatOps.cmpfTotal (F := Ideal) (φ := .f32) .gt l.1 r.1) x
        (fun i => if hd : 1 < S32768x3.rank then iotaInDim S32768x3 32 ⟨1, hd⟩ i else 0#32)).1 (ix2 r k) = x (ix2 r (place (rowOf x r) k))
    ∧ (Host.sort2 S32768x3 1 (fun l r => FloatOps.cmpfTotal (F := Ideal) (φ := .f32) .gt l.1 r.1) x
        (fun i => if hd : 1 < S32768x3.rank then iotaInDim S32768x3 32 ⟨1, hd⟩ i else 0#32)).2 (ix2 r k)
      = BitVec.ofNat 32 (place (rowOf x r) k).val := by
  have hp : sortedFrom (fun k' k'' : Fin 3 => FloatOps.cmpfTotal (F := Ideal) (φ := .f32) .gt
      (x ((ix2 r k : S32768x3.Idx).along 1 k')) (x ((ix2 r k : S32768x3.Idx).along 1 k'')) == 1#1) k = place (rowOf x r) k := by
    unfold place
    simp only [ix2_along, gt_eq]
  constructor
  · exact (congrArg (fun q : Fin 3 => x ((ix2 r k : S32768x3.Idx).along 1 q)) hp).trans (congrArg x (ix2_along r k _))
  · exact (congrArg (fun q : Fin 3 => BitVec.ofNat 32 (((ix2 r k : S32768x3.Idx).along 1 q) 1).val) hp).trans
      (congrArg (fun i : S32768x3.Idx => BitVec.ofNat 32 (i 1).val) (ix2_along r k _))

/-- The first two columns of a table. -/
theorem slice_two {α : Type} (v : S32768x3.Idx → α) (r : Fin 32768) (k : Fin 2) :
    extractStridedSlice S32768x2 (fun _ => 0) v sliceFits_S32768x3_S32768x2 (ix2 r k) = v (ix2 r (k.castLE (by decide))) := by
  refine congrArg v ?_
  funext a
  apply Fin.ext
  fin_cases a
  · exact Nat.zero_add _
  · exact Nat.zero_add _

/-- The `k`-th greatest of a row. -/
theorem topK_value (x : FVec Ideal S32768x3 .f32) (r : Fin 32768) (k : Fin 2) :
    (Host.topK S32768x2 1 (FloatOps.cmpfTotal .gt) x sliceFits_S32768x3_S32768x2).1 (ix2 r k)
      = x (ix2 r (place (rowOf x r) (k.castLE (by decide)))) :=
  (slice_two _ r k).trans (sort_row x r (k.castLE (by decide))).1

/-- Its column, as a word. -/
theorem topK_index (x : FVec Ideal S32768x3 .f32) (r : Fin 32768) (k : Fin 2) :
    (Host.topK S32768x2 1 (FloatOps.cmpfTotal .gt) x sliceFits_S32768x3_S32768x2).2 (ix2 r k)
      = BitVec.ofNat 32 (place (rowOf x r) (k.castLE (by decide))).val :=
  (slice_two _ r k).trans (sort_row x r (k.castLE (by decide))).2

/-- A place, as a word, is a small number. -/
theorem toNat_place (p : Fin 3) : (BitVec.ofNat 32 p.val).toNat = p.val := by
  rw [BitVec.toNat_ofNat, Nat.mod_eq_of_lt (by omega)]

/-- A row of the scattered table: the logits, the one left out at minus infinity. -/
theorem masked_row (V0 : Valuation τ sig (Elt Ideal)) (r : Fin 32768) (e : Fin 3) :
    res_main_v42 V0 (ix2 r e) = masked (rowOf (res_main_v24 V0) r) e := by
  unfold res_main_v42
  refine (ScatterToDense.scatter_eq_GS (T := 32768) (C := 3) (K := 2) scatter_S32768x3_S32768x2x2_S32768x2_n_01_01_2 rfl rfl rfl (by decide) (by decide) _ _ _
    (fun i k => BitVec.ofNat 32 (place (rowOf (res_main_v24 V0) i) ⟨k % 3, Nat.mod_lt _ (by decide)⟩).val)
    (fun i k => (res_main_v24 V0) (ix2 i (place (rowOf (res_main_v24 V0) i) ⟨k % 3, Nat.mod_lt _ (by decide)⟩))) ?_ ?_ ?_ r e).trans ?_
  · intro i k
    pointwise [res_main_v26]
    exact Routing.wrap_of_lt (BitVec.ofNat 32 i.val) _ (by rw [BitVec.toNat_ofNat, Nat.mod_eq_of_lt (by omega)]; omega)
  · intro i k
    have hk : (k.castLE (by decide) : Fin 3) = ⟨k.val % 3, Nat.mod_lt _ (by decide)⟩ := Fin.ext (Nat.mod_eq_of_lt (by omega)).symm
    have h := topK_index (res_main_v24 V0) i k
    rw [hk] at h
    pointwise [res_main_indices]
    refine (Routing.wrap_of_lt _ _ ?_).trans h
    refine lt_of_eq_of_lt ((congrArg BitVec.toNat h).trans (toNat_place _)) ?_
    omega
  · intro i k
    have hk : (k.castLE (by decide) : Fin 3) = ⟨k.val % 3, Nat.mod_lt _ (by decide)⟩ := Fin.ext (Nat.mod_eq_of_lt (by omega)).symm
    have h := topK_value (res_main_v24 V0) i k
    rw [hk] at h
    exact h
  · rw [ScatterToDense.GS_succ, ScatterToDense.GS_succ, ScatterToDense.GS_zero]
    simp only [toNat_place]
    exact masked_select (rowOf (res_main_v24 V0) r) e _ (by pointwise [neg_inf])

end Cert.ReferenceIdeal.Value

end
-- ==== Proof.RefValue.lean ====
/- The reference's result at an index: the token's value against its gates. -/
module

public import proofs.«01_k».proof.Proof.RefGate

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Gating

/-- The greatest of a row, by the host's reduction. -/
theorem max_row (x : FVec Ideal S32768x3 .f32) (r : Fin 32768) :
    Host.reduce FloatOps.maximumf x (constant S_ .f32 0xFF800000#32) reducesTo_S32768x3_S32768_d1 h_S_ (ix1 r) = rowMax (rowOf x r) := by
  pointwise [Gating.neg_inf, fold_max]

/-- The same, in the form in which the fold is met. -/
theorem fold_row (x : FVec Ideal S32768x3 .f32) (r : Fin 32768) :
    Finset.fold max ⊥ x {i | reducesTo_S32768x3_S32768_d1.drop i = ix1 r} = rowMax (rowOf x r) := by
  pointwise [fold_max]

/-- A softmax along a row, as read from the host's operations. -/
theorem softmax_row (x : FVec Ideal S32768x3 .f32) (r : Fin 32768) (e : Fin 3) (l : Fin 3 → EReal) (h : rowOf x r = l) :
    Ideal.div (Ideal.exp (l e - max ⊥ (Finset.fold max ⊥ x {i | reducesTo_S32768x3_S32768_d1.drop i = ix1 r})))
      (∑ k, Ideal.exp (l k - max ⊥ (Finset.fold max ⊥ x {i | reducesTo_S32768x3_S32768_d1.drop i = ix1 r})))
      = softmax l e := by
  rw [fold_row, max_bot_left, h]; rfl

/-- Equal noise gives equal logits. -/
theorem add_mul_congr (a u : EReal) {s t : EReal} (h : s = t) : a + u * s = a + u * t := by rw [h]

/-- The gates of a row are the softmax of its masked logits. -/
theorem gate_row (V0 : Valuation τ sig (Elt Ideal)) (r : Fin 32768) (e : Fin 3) :
    (show EReal from res_main_v53 V0 (ix2 r e)) = gate (rowOf (res_main_v24 V0) r) e := by
  have h : rowOf (res_main_v42 V0) r = masked (rowOf (res_main_v24 V0) r) := funext fun e => masked_row V0 r e
  rw [← softmax_masked]
  pointwise [res_main_v53, res_main_v49, Gating.neg_inf, masked_row]
  exact softmax_row (res_main_v42 V0) r e _ h

/-- The row of a table of token features. -/
abbrev features (x : FVec Ideal S32768x768 .f32) (r : Fin 32768) : Fin 768 → EReal := fun k => x (ix2 r k)

/-- The rows of a router's weights. -/
abbrev weights (w : FVec Ideal S3x768 .f32) : Fin 3 → Fin 768 → EReal := fun e k => w (ix2 e k)

/-- A router's biases. -/
abbrev biases (b : FVec Ideal S3 .f32) : Fin 3 → EReal := fun e => b (ix1 e)

/-- The noise logits of a row. -/
theorem noise_row (V0 : Valuation τ sig (Elt Ideal)) (r : Fin 32768) :
    rowOf (res_main_v11 V0) r = score (features (res_main_v1 V0) r) (weights (V0 (Proc.tc.devRef main_arg3))) (biases (V0 (Proc.tc.devRef main_arg4))) := by
  funext e
  unfold score features weights biases rowOf
  pointwise [res_main_v11]

/-- The logits of a row. -/
theorem logits_row (V0 : Valuation τ sig (Elt Ideal)) (r : Fin 32768) :
    rowOf (res_main_v24 V0) r = logit
      (score (features (res_main_v1 V0) r) (weights (V0 (Proc.tc.devRef main_arg1))) (biases (V0 (Proc.tc.devRef main_arg2))))
      (score (features (res_main_v1 V0) r) (weights (V0 (Proc.tc.devRef main_arg3))) (biases (V0 (Proc.tc.devRef main_arg4))))
      (rowOf (V0 (Proc.tc.devRef main_arg7)) r) := by
  funext e
  rw [← noise_row]
  unfold logit score features weights biases
  pointwise [res_main_v24, res_main_v18, Gating.neg_inf]
  exact add_mul_congr _ _ (softmax_row (res_main_v11 V0) r e _ rfl)

/-- A token of the table, as read from the image. -/
theorem token_at (V0 : Valuation τ sig (Elt Ideal)) (b : Fin 4) (n : Fin 128) (p : Fin 64) (k : Fin 768)
    (h : b.val * 8192 + n.val * 64 + p.val < 32768) :
    res_main_v1 V0 (ix2 ⟨b.val * 8192 + n.val * 64 + p.val, h⟩ k) = V0 (Proc.tc.devRef main_arg0) (ix4 b k n p) := by
  pointwise [res_main_v1]

end Cert.ReferenceIdeal.Value

end
-- ==== Proof.RefResult.lean ====
/- The reference's result at an index, in the shared formula. -/
module

public import proofs.«01_k».proof.Proof.RefValue
public import proofs.«01_k».proof.Proof.Equation

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Gating

/-- The expert's value of every token. -/
def expert (x : FVec Ideal S32768x768 .f32) (w : FVec Ideal S768x768 .f32) (b : FVec Ideal S768 .f32) : FVec Ideal S32768x768 .f32 :=
  addf (Host.dotGeneral dot_S32768x768_S768x768_S32768x768_1_0_0_1_n_n none x (transpose S768x768 [1, 0] w transposes_S768x768_S768x768_1_0))
    (broadcastInDim S32768x768 ![0, 1] bcast_S1x768_S32768x768_0_1 (broadcastInDim S1x768 ![1] bcast_S768_S1x768_1 b))

/-- The three gated values of every token added up, as an image. -/
def combine (g : FVec Ideal S32768x3 .f32) (y : FVec Ideal S32768x768 .f32) : FVec Ideal S4x768x128x64 .f32 :=
  transpose S4x768x128x64 [0, 3, 1, 2] (shapeCast _ (addf (addf (addf (broadcastInDim S32768x768 ![] bcast_S_S32768x768 (constant S_ .f32 0x00000000#32))
    (mulf (broadcastInDim S32768x768 ![0, 1] bcast_S32768x1_S32768x768_0_1 (extractStridedSlice S32768x1 ![0, 0] g slices_S32768x3_S32768x1_0_0)) y))
    (mulf (broadcastInDim S32768x768 ![0, 1] bcast_S32768x1_S32768x768_0_1 (extractStridedSlice S32768x1 ![0, 1] g slices_S32768x3_S32768x1_0_1)) y))
    (mulf (broadcastInDim S32768x768 ![0, 1] bcast_S32768x1_S32768x768_0_1 (extractStridedSlice S32768x1 ![0, 2] g slices_S32768x3_S32768x1_0_2)) y))
    shapeCasts_S32768x768_S4x128x64x768) transposes_S4x128x64x768_S4x768x128x64_0_3_1_2

/-- The reference's result, of a launch's contents. -/
def refResult (V0 : Valuation τ sig (Elt Ideal)) : FVec Ideal S4x768x128x64 .f32 :=
  combine (res_main_v53 V0) (expert (res_main_v1 V0) (V0 (Proc.tc.devRef main_arg5)) (V0 (Proc.tc.devRef main_arg6)))

theorem expert_at (x : FVec Ideal S32768x768 .f32) (w : FVec Ideal S768x768 .f32) (b : FVec Ideal S768 .f32) (r : Fin 32768) (o : Fin 768) :
    expert x w b (ix2 r o) = ∑ k, x (ix2 r k) * w (ix2 o k) + b (ix1 o) := by
  pointwise [expert]

theorem combine_at (g : FVec Ideal S32768x3 .f32) (y : FVec Ideal S32768x768 .f32) (b : Fin 4) (o : Fin 768) (n : Fin 128) (p : Fin 64)
    (h : b.val * 8192 + n.val * 64 + p.val < 32768) :
    combine g y (ix4 b o n p) = 0 + g (ix2 ⟨b.val * 8192 + n.val * 64 + p.val, h⟩ 0) * y (ix2 ⟨b.val * 8192 + n.val * 64 + p.val, h⟩ o)
      + g (ix2 ⟨b.val * 8192 + n.val * 64 + p.val, h⟩ 1) * y (ix2 ⟨b.val * 8192 + n.val * 64 + p.val, h⟩ o)
      + g (ix2 ⟨b.val * 8192 + n.val * 64 + p.val, h⟩ 2) * y (ix2 ⟨b.val * 8192 + n.val * 64 + p.val, h⟩ o) := by
  pointwise [combine]

theorem sum_congr_gates {a b c a' b' c' y y' : EReal} (ha : a = a') (hb : b = b') (hc : c = c') (hy : y = y') :
    0 + a * y + b * y + c * y = 0 + a' * y' + b' * y' + c' * y' := by rw [ha, hb, hc, hy]

theorem value_congr {x x' : Fin 768 → EReal} (w : Fin 768 → EReal) (b : EReal) (h : x = x') : ∑ k, x k * w k + b = ∑ k, x' k * w k + b := by rw [h]

/-- The reference's result at an index. -/
theorem refResult_at (V0 : Valuation τ sig (Elt Ideal)) (b : Fin 4) (o : Fin 768) (n : Fin 128) (p : Fin 64)
    (h : b.val * 8192 + n.val * 64 + p.val < 32768) :
    refResult V0 (ix4 b o n p) = weighted (fun k => V0 (Proc.tc.devRef main_arg0) (ix4 b k n p)) (fun k => V0 (Proc.tc.devRef main_arg5) (ix2 o k))
      (V0 (Proc.tc.devRef main_arg6) (ix1 o))
      (logit (score (fun k => V0 (Proc.tc.devRef main_arg0) (ix4 b k n p)) (weights (V0 (Proc.tc.devRef main_arg1))) (biases (V0 (Proc.tc.devRef main_arg2))))
        (score (fun k => V0 (Proc.tc.devRef main_arg0) (ix4 b k n p)) (weights (V0 (Proc.tc.devRef main_arg3))) (biases (V0 (Proc.tc.devRef main_arg4))))
        (rowOf (V0 (Proc.tc.devRef main_arg7)) ⟨b.val * 8192 + n.val * 64 + p.val, h⟩)) := by
  have hx : features (res_main_v1 V0) ⟨b.val * 8192 + n.val * 64 + p.val, h⟩ = fun k => V0 (Proc.tc.devRef main_arg0) (ix4 b k n p) :=
    funext fun k => token_at V0 b n p k h
  have hl := logits_row V0 ⟨b.val * 8192 + n.val * 64 + p.val, h⟩
  rw [hx] at hl
  rw [← hl, weighted, ← gates_mul]
  refine (combine_at _ _ b o n p h).trans ?_
  refine sum_congr_gates (gate_row V0 _ 0) (gate_row V0 _ 1) (gate_row V0 _ 2) ((expert_at _ _ _ _ o).trans ?_)
  exact value_congr _ _ hx

end Cert.ReferenceIdeal.Value

end
-- ==== Proof.Preconditions.lean ====
/- The two preconditions read back: zero biases, and real gating inputs. -/
module

public import proofs.«01_k».proof.Pre_biases_zero
public import proofs.«01_k».proof.Pre_gating_finite
public import proofs.«01_k».proof.Proof.Equation
public import Idealize.ShloMosaic.Lib.Pointwise
public import Idealize.ShloMosaic.Lib.ReduceAll
public import Idealize.ShloMosaic.Lib.Decide

@[expose] public section

set_option maxRecDepth 16384

noncomputable section

namespace Cert.Preconditions

open Idealize.ShloMosaic Cert.Gating

/-- The shape facts the first precondition states. -/
instance zeroFacts : Cert.Pre_biases_zero.Facts := ⟨by decide⟩

/-- The shape facts the second precondition states. -/
instance finiteFacts : Cert.Pre_gating_finite.Facts := ⟨by decide, by decide, by decide, by decide, by decide, by decide, by decide, by decide, by decide⟩

theorem ofBool_eq_one {b : Bool} (h : BitVec.ofBool b = 1#1) : b = true := by revert h; revert b; decide

/-- Zero biases, at each expert. -/
theorem zero_biases (a0 : FVec Ideal Pre_biases_zero.S4x768x128x64 .f32) (a1 a3 : FVec Ideal Pre_biases_zero.S3x768 .f32) (a2 a4 : FVec Ideal Pre_biases_zero.S3 .f32)
    (a5 : FVec Ideal Pre_biases_zero.S768x768 .f32) (a6 : FVec Ideal Pre_biases_zero.S768 .f32) (a7 : FVec Ideal Pre_biases_zero.S32768x3 .f32)
    (h : ∀ i, Pre_biases_zero.fn (F := Ideal) a0 a1 a2 a3 a4 a5 a6 a7 i = 1#1) (e : Fin 3) : a2 (ix1 e) = 0 ∧ a4 (ix1 e) = 0 := by
  have he := h (ix1 e)
  unfold Pre_biases_zero.fn at he
  obtain ⟨h2, h4⟩ := IntOp.andi_eq_one.1 he
  pointwise at h2
  pointwise at h4
  exact ⟨of_decide_eq_true (ofBool_eq_one h2), of_decide_eq_true (ofBool_eq_one h4)⟩

section Finite
open Cert.Pre_gating_finite

instance : Subsingleton S_.Idx := ⟨fun a b => funext fun i => i.elim0⟩

/-- An array all of whose absolute values are below infinity has real entries. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : IsReal (x i) := by
  have hi := Host.reduce_andi_all _ _ hr hu j h i
  refine IsReal.of_abs_lt ?_
  pointwise at hi
  rw [Ideal.absf_def, Gating.pos_inf] at hi
  exact of_decide_eq_true (ofBool_eq_one hi)

/-- Real gating inputs, at each entry. -/
theorem real_inputs (a0 : FVec Ideal S4x768x128x64 .f32) (a1 a3 : FVec Ideal S3x768 .f32) (a2 a4 : FVec Ideal S3 .f32)
    (a5 : FVec Ideal S768x768 .f32) (a6 : FVec Ideal S768 .f32) (a7 : FVec Ideal S32768x3 .f32)
    (h : ∀ i, Pre_gating_finite.fn (F := Ideal) a0 a1 a2 a3 a4 a5 a6 a7 i = 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a7 i)) := by
  have h0 := h fun i => i.elim0
  unfold Pre_gating_finite.fn Pre_gating_finite.fn_part1 at h0
  obtain ⟨h0, r7⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨all_real a0 _ _ _ _ r0, all_real a1 _ _ _ _ r1, all_real a2 _ _ _ _ r2, all_real a3 _ _ _ _ r3, all_real a4 _ _ _ _ r4, all_real a7 _ _ _ _ r7⟩

end Finite

end Cert.Preconditions

end
-- ==== Proof.Claims.lean ====
/- The two programs' runs with their results named, and the equality of the results under each precondition. -/
module

public import proofs.«01_k».proof.Proof.KernelResult
public import proofs.«01_k».proof.Proof.RefResult
public import proofs.«01_k».proof.Proof.Preconditions

@[expose] public section

set_option maxRecDepth 16384

noncomputable section

namespace Cert.Claims

open Idealize.ShloMosaic Idealize.ShloMosaic.TcCoe Idealize.SL.Sem Cert.Gating

/-- The kernel's run: the result is `kernelResult` of the arguments. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v6)
        = KernelIdeal.Value.kernelResult (m ((c.tc : Thread KernelIdeal.nD KernelIdeal.τ).loc KernelIdeal.main_arg0)) (m ((c.tc : Thread KernelIdeal.nD KernelIdeal.τ).loc KernelIdeal.main_arg1))
          (m ((c.tc : Thread KernelIdeal.nD KernelIdeal.τ).loc KernelIdeal.main_arg3)) (m ((c.tc : Thread KernelIdeal.nD KernelIdeal.τ).loc KernelIdeal.main_arg5))
          (m ((c.tc : Thread KernelIdeal.nD KernelIdeal.τ).loc KernelIdeal.main_arg6)) (m ((c.tc : Thread KernelIdeal.nD KernelIdeal.τ).loc KernelIdeal.main_arg7))) :=
  (θ_run _ _ _).mono (fun _ h c =>
    ((h c).2 KernelIdeal.main_v6 (Pipeline.mem_restRefs_of KernelIdeal.main_v6 (by decide) (by decide))).trans (KernelIdeal.Value.tail_result m c))
    (KernelIdeal.Gen.run_main m ρ)

/-- The reference's result term is `refResult`. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => ∀ c : Dev ReferenceIdeal.nD,
      r.2.mem ((c.tc : Thread ReferenceIdeal.nD ReferenceIdeal.τ).loc ReferenceIdeal.main_v83) = ReferenceIdeal.Value.refResult (StableHlo.launchContents m c)) :=
  θ_run_mono (ReferenceIdeal.Value.run m ρ) fun _ h c => (h c).1

/-- The reference is host operations only: no counter exists to be moved. -/
theorem reference_sems (s : MemSt ReferenceIdeal.nD ReferenceIdeal.τ ReferenceIdeal.sig (Elt Ideal)) : s.sem = fun _ => 0 :=
  sem_eq_zero_of_no_sems (by decide) s

/-- The two results are equal once they are so for each token. -/
theorem results_eq (V : Valuation ReferenceIdeal.τ ReferenceIdeal.sig (Elt Ideal))
    (a0 : FVec Ideal KernelIdeal.S4x768x128x64 .f32) (a1 a3 : FVec Ideal KernelIdeal.S3x768 .f32) (a2 a4 : FVec Ideal Pre_biases_zero.S3 .f32)
    (a5 : FVec Ideal KernelIdeal.S768x768 .f32) (a6 : FVec Ideal KernelIdeal.S768 .f32) (a7 : FVec Ideal KernelIdeal.S32768x3 .f32)
    (h0 : V (Proc.tc.devRef ReferenceIdeal.main_arg0) = a0) (h1 : V (Proc.tc.devRef ReferenceIdeal.main_arg1) = a1) (h2 : V (Proc.tc.devRef ReferenceIdeal.main_arg2) = a2)
    (h3 : V (Proc.tc.devRef ReferenceIdeal.main_arg3) = a3) (h4 : V (Proc.tc.devRef ReferenceIdeal.main_arg4) = a4) (h5 : V (Proc.tc.devRef ReferenceIdeal.main_arg5) = a5)
    (h6 : V (Proc.tc.devRef ReferenceIdeal.main_arg6) = a6) (h7 : V (Proc.tc.devRef ReferenceIdeal.main_arg7) = a7)
    (h : ∀ (b : Fin 4) (n : Fin 128) (p : Fin 64) (r : Fin 32768) (w : Fin 768 → EReal) (bias : EReal),
      weighted (fun k => a0 (ix4 b k n p)) w bias (logit (product (fun k => a0 (ix4 b k n p)) fun e k => a1 (ix2 e k))
        (product (fun k => a0 (ix4 b k n p)) fun e k => a3 (ix2 e k)) fun e => a7 (ix2 r e))
      = weighted (fun k => a0 (ix4 b k n p)) w bias (logit (score (fun k => a0 (ix4 b k n p)) (fun e k => a1 (ix2 e k)) fun e => a2 (ix1 e))
        (score (fun k => a0 (ix4 b k n p)) (fun e k => a3 (ix2 e k)) fun e => a4 (ix1 e)) fun e => a7 (ix2 r e))) :
    ReferenceIdeal.Value.refResult V = KernelIdeal.Value.kernelResult a0 a1 a3 a5 a6 a7 := by
  funext j
  idx_vars j
  have hr : j0.val * 8192 + j2.val * 64 + j3.val < 32768 := by omega
  refine (ReferenceIdeal.Value.refResult_at V j0 j1 j2 j3 hr).trans ?_
  rw [KernelIdeal.Value.kernelResult_at a0 a1 a3 a5 a6 a7 j0 j1 j2 j3 hr, h, h0, h1, h2, h3, h4, h5, h6, h7]

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import proofs.«01_k».proof.Proof.Claims
public import Idealize.ShloMosaic.Init

@[expose] public section

noncomputable section

namespace Cert.Proof

open Idealize.ShloMosaic Idealize.ShloMosaic.TcCoe Idealize.SL.Sem Cert.Gating

/-- The reference runs, keeps its arguments and leaves every counter at zero. -/
theorem reference_quiescent : Cert.quiescent_ReferenceIdeal := fun m g _ =>
  θ_run_mono (Cert.ReferenceIdeal.Value.run m g) fun r h => ⟨fun c => (h c).2, Cert.Claims.reference_sems r.2⟩

/-- With zero biases both programs end with equal results. -/
theorem algebraic_zero : Cert.algebraic_KernelIdeal_ReferenceIdeal_pre_biases_zero := by
  intro m g m' g' hpre hagree
  refine ⟨_, θ_run_mono (θ_run_and (Cert.Claims.kernel_run m g) (Cert.KernelIdeal.Gen.unchanged m g)) fun r h c => ⟨h.1 c, h.2 c⟩,
    θ_run_mono (θ_run_and (Cert.Claims.reference_run m' g') (Cert.ReferenceIdeal.Value.run m' g')) fun r h c => ⟨(h.1 c).trans ?_, (h.2 c).2⟩⟩
  obtain ⟨h0, h1, h2, h3, h4, h5, h6, h7⟩ := hagree c
  have hz := Cert.Preconditions.zero_biases _ _ _ _ _ _ _ _ (congrFun (hpre c))
  exact Cert.Claims.results_eq (StableHlo.launchContents m' c) _ _ _ _ _ _ _ _ h0 h1 h2 h3 h4 h5 h6 h7 fun b n p r w bias =>
    weighted_zero _ _ _ _ _ _ _ _ (fun e => (hz e).1) (fun e => (hz e).2)

/-- With real gating inputs both programs end with equal results. -/
theorem algebraic_finite : Cert.algebraic_KernelIdeal_ReferenceIdeal_pre_gating_finite := by
  intro m g m' g' hpre hagree
  refine ⟨_, θ_run_mono (θ_run_and (Cert.Claims.kernel_run m g) (Cert.KernelIdeal.Gen.unchanged m g)) fun r h c => ⟨h.1 c, h.2 c⟩,
    θ_run_mono (θ_run_and (Cert.Claims.reference_run m' g') (Cert.ReferenceIdeal.Value.run m' g')) fun r h c => ⟨(h.1 c).trans ?_, (h.2 c).2⟩⟩
  obtain ⟨h0, h1, h2, h3, h4, h5, h6, h7⟩ := hagree c
  obtain ⟨r0, r1, r2, r3, r4, r7⟩ := Cert.Preconditions.real_inputs _ _ _ _ _ _ _ _ (congrFun (hpre c))
  exact Cert.Claims.results_eq (StableHlo.launchContents m' c) _ _ _ _ _ _ _ _ h0 h1 h2 h3 h4 h5 h6 h7 fun b n p r w bias =>
    weighted_real _ _ _ _ _ _ _ _ (fun _ => r0 _) (fun _ _ => r1 _) (fun _ => r2 _) (fun _ _ => r3 _) (fun _ => r4 _) (fun _ => r7 _)

theorem claim : Cert.Claim :=
  ⟨Cert.Kernel.Gen.facts, Cert.KernelIdeal.Gen.facts, Cert.ReferenceIdeal.Gen.facts, Cert.Preconditions.zeroFacts, Cert.Preconditions.finiteFacts,
    fun m g _ => Cert.Kernel.Gen.frame m g, fun m g _ => Cert.KernelIdeal.Gen.frame m g, fun m g _ => Cert.KernelIdeal.Gen.frame m g,
    fun m g _ => Cert.KernelIdeal.Gen.frame m g, reference_quiescent, fun m g _ => reference_quiescent m g trivial,
    fun m g _ => reference_quiescent m g trivial, trivial, algebraic_zero, algebraic_finite⟩

end Cert.Proof

end
